-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Reference (m : (ℓ : Loc Cert.Reference.nD Cert.Reference.τ Cert.Reference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)) →
    ∃ (v0 : (c : Dev Cert.Kernel.nD) → Buf (Elt Bits) ((c.tc : Thread Cert.Kernel.nD Cert.Kernel.τ).loc Cert.Kernel.main_v0)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v0) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v7) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1))

def Claim : Prop :=
  ∃ (hKernel : Cert.Kernel.Facts) (hKernelIdeal : Cert.KernelIdeal.Facts) (hReferenceIdeal : Cert.ReferenceIdeal.Facts) (hReference : Cert.Reference.Facts),
    quiescent_Kernel (hKernel := hKernel)
    ∧ quiescent_KernelIdeal (hKernelIdeal := hKernelIdeal)
    ∧ quiescent_ReferenceIdeal (hReferenceIdeal := hReferenceIdeal)
    ∧ quiescent_Reference (hReference := hReference)
    ∧ preserves_Kernel_KernelIdeal
    ∧ algebraic_KernelIdeal_ReferenceIdeal (hKernelIdeal := hKernelIdeal) (hReferenceIdeal := hReferenceIdeal)
    ∧ bitexact_Kernel_Reference (hKernel := hKernel) (hReference := hReference)
-- ==== Kernel.lean ====
abbrev S8192x4x1024 : Shape := ⟨3, ![8192, 4, 1024]⟩
abbrev S8192x1024 : Shape := ⟨2, ![8192, 1024]⟩
abbrev S1024x8192 : Shape := ⟨2, ![1024, 8192]⟩
abbrev S2048x1024 : Shape := ⟨2, ![2048, 1024]⟩
abbrev S1024x2048 : Shape := ⟨2, ![1024, 2048]⟩

abbrev nBuf : Space → Nat
  | .hbm => 3
  | .vmem => 4
  | .smem => 0
  | _ => 0

abbrev bufTy : (tb : Table) → Fin (tcTables nBuf tb) → BufTy
  | .hbm, ⟨0, _⟩ => ⟨S8192x4x1024, .f32⟩
  | .hbm, ⟨1, _⟩ => ⟨S8192x1024, .f32⟩
  | .hbm, ⟨2, _⟩ => ⟨S1024x8192, .f32⟩
  | .local _ .vmem, ⟨0, _⟩ => ⟨S2048x1024, .f32⟩
  | .local _ .vmem, ⟨1, _⟩ => ⟨S2048x1024, .f32⟩
  | .local _ .vmem, ⟨2, _⟩ => ⟨S1024x2048, .f32⟩
  | .local _ .vmem, ⟨3, _⟩ => ⟨S1024x2048, .f32⟩
  | _, _ => ⟨S8192x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference.lean ====
abbrev S8192x4x1024 : Shape := ⟨3, ![8192, 4, 1024]⟩
abbrev S8192x1024 : Shape := ⟨2, ![8192, 1024]⟩
abbrev S8192 : Shape := ⟨1, ![8192]⟩
abbrev S_ : Shape := ⟨0, ![]⟩
abbrev S8192x1 : Shape := ⟨2, ![8192, 1]⟩
abbrev S1 : Shape := ⟨1, ![1]⟩
abbrev S1x1 : Shape := ⟨2, ![1, 1]⟩
abbrev S1024x8192 : Shape := ⟨2, ![1024, 8192]⟩

abbrev nBuf : Space → Nat
  | .hbm => 37
  | .vmem => 0
  | .smem => 0
  | _ => 0

abbrev bufTy : (tb : Table) → Fin (tcTables nBuf tb) → BufTy
  | .hbm, ⟨0, _⟩ => ⟨S8192x4x1024, .f32⟩
  | .hbm, ⟨1, _⟩ => ⟨S8192x1024, .f32⟩
  | .hbm, ⟨2, _⟩ => ⟨S8192, .i32⟩
  | .hbm, ⟨3, _⟩ => ⟨S_, .i32⟩
  | .hbm, ⟨4, _⟩ => ⟨S8192, .i32⟩
  | .hbm, ⟨5, _⟩ => ⟨S8192, .i32⟩
  | .hbm, ⟨6, _⟩ => ⟨S_, .i32⟩
  | .hbm, ⟨7, _⟩ => ⟨S8192, .i32⟩
  | .hbm, ⟨8, _⟩ => ⟨S8192, .i32⟩
  | .hbm, ⟨9, _⟩ => ⟨S_, .i32⟩
  | .hbm, ⟨10, _⟩ => ⟨S_, .i32⟩
  | .hbm, ⟨11, _⟩ => ⟨S8192, .i32⟩
  | .hbm, ⟨12, _⟩ => ⟨S8192, .i32⟩
  | .hbm, ⟨13, _⟩ => ⟨S_, .i32⟩
  | .hbm, ⟨14, _⟩ => ⟨S8192, .i32⟩
  | .hbm, ⟨15, _⟩ => ⟨S8192, .i1⟩
  | .hbm, ⟨16, _⟩ => ⟨S_, .i32⟩
  | .hbm, ⟨17, _⟩ => ⟨S8192, .i32⟩
  | .hbm, ⟨18, _⟩ => ⟨S8192, .i32⟩
  | .hbm, ⟨19, _⟩ => ⟨S8192, .i32⟩
  | .hbm, ⟨20, _⟩ => ⟨S8192x1, .i32⟩
  | .hbm, ⟨21, _⟩ => ⟨S1, .i32⟩
  | .hbm, ⟨22, _⟩ => ⟨S_, .i32⟩
  | .hbm, ⟨23, _⟩ => ⟨S8192x1, .i32⟩
  | .hbm, ⟨24, _⟩ => ⟨S8192x1, .i1⟩
  | .hbm, ⟨25, _⟩ => ⟨S1x1, .i32⟩
  | .hbm, ⟨26, _⟩ => ⟨S8192x1, .i32⟩
  | .hbm, ⟨27, _⟩ => ⟨S8192x1, .i1⟩
  | .hbm, ⟨28, _⟩ => ⟨S8192x1, .i1⟩
  | .hbm, ⟨29, _⟩ => ⟨S_, .i1⟩
  | .hbm, ⟨30, _⟩ => ⟨S8192, .i1⟩
  | .hbm, ⟨31, _⟩ => ⟨S8192x1024, .f32⟩
  | .hbm, ⟨32, _⟩ => ⟨S8192x1024, .i1⟩
  | .hbm, ⟨33, _⟩ => ⟨S_, .f32⟩
  | .hbm, ⟨34, _⟩ => ⟨S8192x1024, .f32⟩
  | .hbm, ⟨35, _⟩ => ⟨S8192x1024, .f32⟩
  | .hbm, ⟨36, _⟩ => ⟨S1024x8192, .f32⟩
  | _, _ => ⟨S8192x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_c_0 : Ref sig .tc := ⟨.hbm, 6, rfl⟩
abbrev main_v3 : Ref sig .tc := ⟨.hbm, 7, rfl⟩
abbrev main_v4 : Ref sig .tc := ⟨.hbm, 8, rfl⟩
abbrev main_c_1 : Ref sig .tc := ⟨.hbm, 9, rfl⟩
abbrev main_call0_v0 : Ref sig .tc := ⟨.hbm, 10, rfl⟩
abbrev main_call0_v1 : Ref sig .tc := ⟨.hbm, 11, rfl⟩
abbrev main_v5 : Ref sig .tc := ⟨.hbm, 12, rfl⟩
abbrev main_call1_c : Ref sig .tc := ⟨.hbm, 13, rfl⟩
abbrev main_call1_v0 : Ref sig .tc := ⟨.hbm, 14, rfl⟩
abbrev main_call1_v1 : Ref sig .tc := ⟨.hbm, 15, rfl⟩
abbrev main_call1_c_0 : Ref sig .tc := ⟨.hbm, 16, rfl⟩
abbrev main_call1_v2 : Ref sig .tc := ⟨.hbm, 17, rfl⟩
abbrev main_call1_v3 : Ref sig .tc := ⟨.hbm, 18, rfl⟩
abbrev main_call1_v4 : Ref sig .tc := ⟨.hbm, 19, rfl⟩
abbrev main_call1_v5 : Ref sig .tc := ⟨.hbm, 20, rfl⟩
abbrev main_call1_c_1 : Ref sig .tc := ⟨.hbm, 21, rfl⟩
abbrev main_call1_c_2 : Ref sig .tc := ⟨.hbm, 22, rfl⟩
abbrev main_call1_v6 : Ref sig .tc := ⟨.hbm, 23, rfl⟩
abbrev main_call1_v7 : Ref sig .tc := ⟨.hbm, 24, rfl⟩
abbrev main_call1_v8 : Ref sig .tc := ⟨.hbm, 25, rfl⟩
abbrev main_call1_v9 : Ref sig .tc := ⟨.hbm, 26, rfl⟩
abbrev main_call1_v10 : Ref sig .tc := ⟨.hbm, 27, rfl⟩
abbrev main_call1_v11 : Ref sig .tc := ⟨.hbm, 28, rfl⟩
abbrev main_call1_c_3 : Ref sig .tc := ⟨.hbm, 29, rfl⟩
abbrev main_call1_v12 : Ref sig .tc := ⟨.hbm, 30, rfl⟩
abbrev main_call1_v13 : Ref sig .tc := ⟨.hbm, 31, rfl⟩
abbrev main_call1_v14 : Ref sig .tc := ⟨.hbm, 32, rfl⟩
abbrev main_call1_cst : Ref sig .tc := ⟨.hbm, 33, rfl⟩
abbrev main_call1_v15 : Ref sig .tc := ⟨.hbm, 34, rfl⟩
abbrev main_v6 : Ref sig .tc := ⟨.hbm, 35, rfl⟩
abbrev main_v7 : Ref sig .tc := ⟨.hbm, 36, rfl⟩

abbrev nD : Nat := 1
abbrev τ : Topo := Topo.v7x

variable {F : FTy → Type} [FloatOps F]
-- ==== Proof.Lookup.lean ====
/-
  WHAT THE REFERENCE COMPUTES. The reference numbers the positions 0, 1, …, 8191, clamps them from above, looks the
  rows of the embedding table up (`jnp.take`: negative positions wrapped once, positions outside the table answered by
  a fill value) and transposes. This module composes the same host operations over a table of any element type and
  shows that the whole chain is the transposed table: result element `(d, s)` is table element `(s, d)`.

  * `position_word` … `in_table_word`: the arithmetic on one position, as facts on 32-bit words.
  * `rowsDims` / `gather_rows_apply`: the row gather read at an element.
  * `lookup_eq`: the chain of host operations is `transposed`.
-/
module

public import Idealize.ShloMosaic.PureOps.Vector
public import Idealize.ShloMosaic.Lib.WordCmp
public import Idealize.ShloMosaic.Lib.ValueIdxCore
public import Idealize.ShloMosaic.Lib.ReduceAll
public import Idealize.ShloMosaic.Lib.Pipeline.Value

@[expose] public section

namespace Cert.Embedding

open Idealize.ShloMosaic Idealize.ShloMosaic.ValueIdx

/-! ## The shapes -/

/-- A scalar's shape. -/
abbrev Sc : Shape := ⟨0, ![]⟩
/-- One word. -/
abbrev One : Shape := ⟨1, ![1]⟩
/-- One word as a matrix. -/
abbrev OneOne : Shape := ⟨2, ![1, 1]⟩
/-- The positions. -/
abbrev Pos : Shape := ⟨1, ![8192]⟩
/-- The positions as a column of start indices. -/
abbrev Col : Shape := ⟨2, ![8192, 1]⟩
/-- The embedding table: one row per position. -/
abbrev Table : Shape := ⟨2, ![8192, 1024]⟩
/-- The result: one column per position. -/
abbrev Out : Shape := ⟨2, ![1024, 8192]⟩

variable {α : Type}

/-- The transposed table: element `(d, s)` is table element `(s, d)`. -/
def transposed (W : Table.Idx → α) : Out.Idx → α := fun y => W (ix2 (y 1) (y 0))

/-! ## One position -/

/-- Position `n` of the table, as the reference computes it: `min(8192, 0 + 1 * n)`, which is `n`. -/
theorem position_word (n : Nat) (hn : n < 8192) :
    IntOp.minsi 8192#32 (IntOp.addi 0#32 (IntOp.muli 1#32 (BitVec.ofNat 32 n))) = BitVec.ofNat 32 n := by
  have hs : (8192#32).slt (BitVec.ofNat 32 n) = false := by
    rw [BitVec.slt_eq_decide, WordCmp.toInt_ofNat_of_lt (by omega), WordCmp.toInt_ofNat_of_lt (by omega)]
    exact decide_eq_false (by omega)
  unfold IntOp.minsi IntOp.addi IntOp.muli
  rw [BitVec.one_mul, BitVec.zero_add, hs]
  rfl

/-- It is not negative … -/
theorem nonneg_word (n : Nat) (hn : n < 8192) : IntOp.cmpi .slt (BitVec.ofNat 32 n) 0#32 = 0#1 := by
  unfold IntOp.cmpi
  dsimp only
  rw [BitVec.slt_eq_decide, WordCmp.toInt_ofNat_of_lt (by omega), WordCmp.toInt_ofNat_of_lt (by omega),
    decide_eq_false (by omega)]
  rfl

/-- … and the table has a row for it. -/
theorem in_table_word (n : Nat) (hn : n < 8192) :
    IntOp.andi (IntOp.cmpi .sge (BitVec.ofNat 32 n) 0#32) (IntOp.cmpi .sle (BitVec.ofNat 32 n) 8191#32) = 1#1 := by
  unfold IntOp.cmpi
  dsimp only
  rw [BitVec.sle_eq_decide, BitVec.sle_eq_decide, WordCmp.toInt_ofNat_of_lt (a := n) (by omega),
    WordCmp.toInt_ofNat_of_lt (by omega), WordCmp.toInt_ofNat_of_lt (by omega),
    decide_eq_true (by omega), decide_eq_true (by omega)]
  rfl

/-! ## The row gather -/

/-- The dimension numbers of a lookup of whole rows: result row `s` is the table's row at start index `s`. -/
abbrev rowsDims (wf : GatherDims.WF Table Col Table [1] [0] [] [0] [] 1 ![1, 1024]) : GatherDims Table Col Table where
  offsetDims := [1]
  collapsedSliceDims := [0]
  operandBatchingDims := []
  startIndicesBatchingDims := []
  startIndexMap := [0]
  indexVectorDim := 1
  sliceSizes := ![1, 1024]
  wf := wf

/-- The row gather read at `(s, d)`, where start index `s` is a row number `r` of the table: table element `(r, d)`. -/
theorem gather_rows_apply (wf : GatherDims.WF Table Col Table [1] [0] [] [0] [] 1 ![1, 1024])
    (W : Table.Idx → α) (idx : IVec Col 32) (s : Fin 8192) (d : Fin 1024) (r : Fin 8192)
    (hr : idx (ix2 s (0 : Fin 1)) = BitVec.ofNat 32 r.val) :
    Host.gather (rowsDims wf) W idx (ix2 s d) = W (ix2 r d) := by
  unfold Host.gather
  congr 1
  funext a
  refine Fin.ext ?_
  show (rowsDims wf).start (ix2 s d) idx a + (rowsDims wf).batchCoord (ix2 s d) a + (rowsDims wf).offCoord (ix2 s d) a = _
  rw [GatherDims.batchCoord_eq_zero _ _ _ List.not_mem_nil, Nat.add_zero]
  match a with
  | ⟨0, _⟩ =>
    have hz : (rowsDims wf).offCoord (ix2 s d) 0 = 0 :=
      GatherDims.offCoord_eq_zero _ _ _ fun h => ((GatherDims.mem_sKept _ _).mp h).1 (List.mem_singleton.mpr rfl)
    have hi : (rowsDims wf).siIdx (ix2 s d) ⟨List.idxOf (0 : Fin 2) (rowsDims wf).startIndexMap,
        List.idxOf_lt_length_iff.2 (List.mem_singleton.mpr rfl)⟩ = ix2 s (0 : Fin 1) := by
      funext b
      match b with
      | ⟨0, _⟩ => rfl
      | ⟨1, _⟩ => rfl
    show (rowsDims wf).start (ix2 s d) idx 0 + (rowsDims wf).offCoord (ix2 s d) 0 = r.val
    rw [hz, Nat.add_zero]
    unfold GatherDims.start
    rw [dif_pos (List.mem_singleton.mpr rfl), hi, hr, WordCmp.toInt_ofNat_of_lt (by have := r.isLt; omega)]
    show min r.val (8192 - 1) = r.val
    have := r.isLt
    omega
  | ⟨1, _⟩ =>
    have hs : (rowsDims wf).start (ix2 s d) idx 1 = 0 := by
      unfold GatherDims.start
      exact dif_neg fun h => absurd (List.mem_singleton.mp h) (by decide)
    show (rowsDims wf).start (ix2 s d) idx 1 + (rowsDims wf).offCoord (ix2 s d) 1 = d.val
    rw [hs, Nat.zero_add]
    unfold GatherDims.offCoord
    rw [dif_pos ((GatherDims.mem_sKept _ _).mpr ⟨fun h => absurd (List.mem_singleton.mp h) (by decide), List.not_mem_nil⟩)]
    rfl

/-! ## The chain of host operations -/

/-- The clamped positions `min(8192, 0 + 1 * [0, 1, …, 8191])`. -/
def positions (hp : Sc.BroadcastsInDim Pos ![]) : IVec Pos 32 :=
  minsi (broadcastInDim Pos ![] hp (id (constantI Sc 32 8192#32)))
    (addi (broadcastInDim Pos ![] hp (constantI Sc 32 0#32))
      (muli (broadcastInDim Pos ![] hp (constantI Sc 32 1#32)) (iotaInDim Pos 32 0)))

/-- `positions` at `i` is the number `i`. -/
theorem positions_apply (hp : Sc.BroadcastsInDim Pos ![]) (i : Pos.Idx) :
    positions hp i = BitVec.ofNat 32 (i 0).val := position_word _ (i 0).isLt

/-- The positions as start indices: a negative one has the table's height added, then all stand in a column. -/
def starts (hp : Sc.BroadcastsInDim Pos ![]) (hc : Pos.BroadcastsInDim Col ![0]) : IVec Col 32 :=
  broadcastInDim Col ![0] hc
    (select (cmpi .slt (positions hp) (broadcastInDim Pos ![] hp (constantI Sc 32 0#32)))
      (addi (positions hp) (broadcastInDim Pos ![] hp (constantI Sc 32 8192#32))) (positions hp))

/-- Start index `s` is the number `s`. -/
theorem starts_apply (hp : Sc.BroadcastsInDim Pos ![]) (hc : Pos.BroadcastsInDim Col ![0]) (s : Fin 8192) (z : Fin 1) :
    starts hp hc (ix2 s z) = BitVec.ofNat 32 s.val := by
  refine (broadcastInDim_apply ![0] hc _ (ix2 s z) (ix1 s) fun a => by match a with | ⟨0, _⟩ => rfl).trans ?_
  show Scalar.select (IntOp.cmpi .slt (positions hp (ix1 s)) 0#32)
    (IntOp.addi (positions hp (ix1 s)) 8192#32) (positions hp (ix1 s)) = _
  have h : positions hp (ix1 s) = BitVec.ofNat 32 s.val := positions_apply hp (ix1 s)
  rw [h, nonneg_word _ s.isLt]
  rfl

/-- Which start indices name a row of the table. -/
def inTable (hp : Sc.BroadcastsInDim Pos ![]) (hc : Pos.BroadcastsInDim Col ![0]) (hs : Sc.BroadcastsInDim Col ![])
    (h1 : One.BroadcastsInDim OneOne ![1]) (h2 : OneOne.BroadcastsInDim Col ![0, 1]) (hr : Col.ReducesTo [1] Pos)
    (h0 : 0 < Sc.numel) : IVec Pos 1 :=
  Host.reduce IntOp.andi
    (andi (cmpi .sge (starts hp hc) (broadcastInDim Col ![] hs (constantI Sc 32 0#32)))
      (cmpi .sle (starts hp hc) (broadcastInDim Col ![0, 1] h2 (broadcastInDim OneOne ![1] h1 (constantI One 32 8191#32)))))
    (constantI Sc 1 1#1) hr h0

/-- All of them do. -/
theorem inTable_apply (hp : Sc.BroadcastsInDim Pos ![]) (hc : Pos.BroadcastsInDim Col ![0]) (hs : Sc.BroadcastsInDim Col ![])
    (h1 : One.BroadcastsInDim OneOne ![1]) (h2 : OneOne.BroadcastsInDim Col ![0, 1]) (hr : Col.ReducesTo [1] Pos)
    (h0 : 0 < Sc.numel) (i : Pos.Idx) : inTable hp hc hs h1 h2 hr h0 i = 1#1 := by
  refine Host.reduce_andi_one _ _ hr h0 i rfl fun y => ?_
  show IntOp.andi (IntOp.cmpi .sge (starts hp hc y) 0#32) (IntOp.cmpi .sle (starts hp hc y) 8191#32) = 1#1
  have h : starts hp hc y = BitVec.ofNat 32 (y 0).val :=
    (congrArg (starts hp hc) (eq_ix2 y)).trans (starts_apply hp hc (y 0) (y 1))
  rw [h]
  exact in_table_word _ (y 0).isLt

/-- The reference's chain over the table `W`: the rows looked up at the start indices, `fill` where a start index names
    no row, then transposed. -/
def lookup (hp : Sc.BroadcastsInDim Pos ![]) (hc : Pos.BroadcastsInDim Col ![0]) (hs : Sc.BroadcastsInDim Col ![])
    (h1 : One.BroadcastsInDim OneOne ![1]) (h2 : OneOne.BroadcastsInDim Col ![0, 1]) (hr : Col.ReducesTo [1] Pos)
    (h0 : 0 < Sc.numel) (hm : Pos.BroadcastsInDim Table ![0])
    (wf : GatherDims.WF Table Col Table [1] [0] [] [0] [] 1 ![1, 1024]) (ht : Table.Transposes [1, 0] Out)
    (fill : Table.Idx → α) (W : Table.Idx → α) : Out.Idx → α :=
  transpose Out [1, 0]
    (select (broadcastInDim Table ![0] hm (inTable hp hc hs h1 h2 hr h0)) (Host.gather (rowsDims wf) W (starts hp hc)) fill) ht

/-- THE REFERENCE'S VALUE: every position is a row number of the table, so no start index wraps, none is clamped, none
    is answered by the fill value, and the chain is the transposed table. -/
theorem lookup_eq (hp : Sc.BroadcastsInDim Pos ![]) (hc : Pos.BroadcastsInDim Col ![0]) (hs : Sc.BroadcastsInDim Col ![])
    (h1 : One.BroadcastsInDim OneOne ![1]) (h2 : OneOne.BroadcastsInDim Col ![0, 1]) (hr : Col.ReducesTo [1] Pos)
    (h0 : 0 < Sc.numel) (hm : Pos.BroadcastsInDim Table ![0])
    (wf : GatherDims.WF Table Col Table [1] [0] [] [0] [] 1 ![1, 1024]) (ht : Table.Transposes [1, 0] Out)
    (fill : Table.Idx → α) (W : Table.Idx → α) :
    lookup hp hc hs h1 h2 hr h0 hm wf ht fill W = transposed W := by
  funext y
  obtain ⟨d, s, rfl⟩ : ∃ (d : Fin 1024) (s : Fin 8192), y = ix2 d s := ⟨y 0, y 1, eq_ix2 y⟩
  refine (transpose_apply [1, 0] _ ht (ix2 d s) (ix2 s d) fun b => by
    match b with
    | ⟨0, _⟩ => rfl
    | ⟨1, _⟩ => rfl).trans ?_
  have hin : broadcastInDim Table ![0] hm (inTable hp hc hs h1 h2 hr h0) (ix2 s d) = 1#1 := by
    have h := inTable_apply hp hc hs h1 h2 hr h0 (ix1 s)
    generalize inTable hp hc hs h1 h2 hr h0 = ok at h ⊢
    exact (broadcastInDim_apply ![0] hm ok (ix2 s d) (ix1 s) fun a => by match a with | ⟨0, _⟩ => rfl).trans h
  show Scalar.select (broadcastInDim Table ![0] hm (inTable hp hc hs h1 h2 hr h0) (ix2 s d))
    (Host.gather (rowsDims wf) W (starts hp hc) (ix2 s d)) (fill (ix2 s d)) = W (ix2 s d)
  rw [hin, gather_rows_apply wf W _ s d s (starts_apply hp hc s 0)]
  rfl

end Cert.Embedding
-- ==== Proof.KernelIdealValue.lean ====
/-
  WHAT THE KERNEL OVER THE EXTENDED REALS COMPUTES. The grid has four points. Point `t` reads rows `2048 t` to `2048 t + 2047` of the table,
  transposes that block and writes it to columns `2048 t` to `2048 t + 2047` of the result. The four blocks cover the
  result, so after the run the result array is the transposed table.
-/
module

public import proofs.«01_k».proof.Proof.Lookup
public import proofs.«01_k».proof.Proof.Gen.KernelIdeal.Value
public import Idealize.ShloMosaic.Lib.Pipeline.ValueKit

@[expose] public section

noncomputable section

namespace Cert.KernelIdeal.Value

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- ONE BLOCK: the body leaves the transposed block in the output's staging buffer. -/
theorem block_apply (x : Vec F S2048x1024 .f32) (y : S1024x2048.Idx) : out0_1 x y = x (ValueIdx.ix2 (y 1) (y 0)) := by
  unfold out0_1
  rw [canon1_eq, View.ld_unit_zero (S := S2048x1024) (funext fun a => by fin_cases a <;> rfl)]
  exact congrArg x (funext fun a => by match a with | ⟨0, _⟩ => rfl | ⟨1, _⟩ => rfl)

/-- At point `t` the input block is the table's block `(t, 0)` and the output block the result's block `(0, t)`. -/
theorem block_indices : ∀ t : Fin cfg0.N, win0_0.index t = ![t.val, 0] ∧ win0_1.index t = ![0, t.val] :=
  (by decide +kernel : ∀ t : Fin grid0.N, win0_0.index t = ![t.val, 0] ∧ win0_1.index t = ![0, t.val])

/-- THE WHOLE ARRAY: after the run the result array is the transposed table. -/
theorem result_eq (c : Dev nD) :
    (dats m 0 c).arrAt 1 cfg0.N = Cert.Embedding.transposed (m ((c : Thread nD τ).loc main_arg1)) := by
  refine (dats m 0 c).arrAt_eq_of_covers 1 _ (by decide +kernel) fun t _ y => ?_
  blk_simp
  rw [after0_1]
  refine (block_apply _ _).trans ?_
  unfold Cert.Embedding.transposed
  blk_simp [iblk]
  refine congrArg _ ?_
  blk_ext [ValueIdx.ix2, (block_indices t).1, (block_indices t).2]

/-- The run: the result array ends as the transposed table, the arguments as they were. -/
theorem run_transposed : θ_run defs (onTc (τ := τ) (main (F := F))) ⟨m, fun _ => 0, ρ⟩ fun r => ∀ c : Dev nD,
      r.2.mem ((c : Thread nD τ).loc main_v0) = Cert.Embedding.transposed (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (result_eq m c), (h c).2⟩) (run_blocks m ρ)

end Cert.KernelIdeal.Value

end
-- ==== Proof.lean ====
/-
  THE CERTIFICATE. The kernel and the reference both return the transposed embedding table, so they agree: exactly, bit
  for bit, on the machine's floats, and as extended reals in their idealizations. Each of the four programs runs to the
  end, leaves its arguments as they were and every semaphore counter at zero.
-/
module

public import proofs.«01_k».proof.Defs
public import proofs.«01_k».proof.Proof.KernelValue
public import proofs.«01_k».proof.Proof.KernelIdealValue
public import proofs.«01_k».proof.Proof.Gen.Reference.Run
public import proofs.«01_k».proof.Proof.Gen.ReferenceIdeal.Run
public import Idealize.ShloMosaic.Lib.Claim
public import Idealize.ShloMosaic.Lib.Quiescent

@[expose] public section

noncomputable section

namespace Cert.Proof

open Idealize.ShloMosaic Idealize.SL.Sem

/-- The kernel runs, keeps its arguments and ends with every counter at zero. -/
theorem kernel_frame : Cert.quiescent_Kernel := fun m ρ _ => Cert.Kernel.Gen.frame m ρ

/-- So does its idealization. -/
theorem kernelIdeal_frame : Cert.quiescent_KernelIdeal := fun m ρ _ => Cert.KernelIdeal.Gen.frame m ρ

/-- So does the idealized reference, which has no semaphores at all. -/
theorem referenceIdeal_frame : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- So does the reference. -/
theorem reference_frame : Cert.quiescent_Reference := fun m ρ _ =>
  (θ_run Cert.Reference.defs _ _).mono (fun r h => ⟨fun c => (h c).2, sem_eq_zero_of_no_sems (by decide) r.2⟩)
    (Cert.Reference.Value.run (F := Bits) m ρ)

/-- Over the extended reals, from equal arguments, kernel and reference end with the same result: the transposed
    table. -/
theorem equal_ideal : Cert.algebraic_KernelIdeal_ReferenceIdeal := by
  intro m ρ m' ρ' _ hagree
  refine ⟨fun c => Cert.Embedding.transposed (m ((c.tc : Thread Cert.KernelIdeal.nD Cert.KernelIdeal.τ).loc Cert.KernelIdeal.main_arg1)),
    Cert.KernelIdeal.Value.run_transposed (F := Ideal) m ρ, ?_⟩
  refine (θ_run Cert.ReferenceIdeal.defs _ _).mono (fun _ h c => ⟨(h c).1.trans ?_, (h c).2⟩)
    (Cert.ReferenceIdeal.Value.run (F := Ideal) m' ρ')
  rw [(hagree c).2]
  exact Cert.Embedding.lookup_eq _ _ _ _ _ _ _ _ _ _ _ _

/-- On the machine's floats, from equal arguments, kernel and reference end with the same bits: the transposed table. -/
theorem equal_bits : Cert.bitexact_Kernel_Reference := by
  intro m ρ m' ρ' _ hagree
  refine ⟨fun c => Cert.Embedding.transposed (m ((c.tc : Thread Cert.Kernel.nD Cert.Kernel.τ).loc Cert.Kernel.main_arg1)),
    Cert.Kernel.Value.run_transposed (F := Bits) m ρ, ?_⟩
  refine (θ_run Cert.Reference.defs _ _).mono (fun _ h c => ⟨(h c).1.trans ?_, (h c).2⟩)
    (Cert.Reference.Value.run (F := Bits) m' ρ')
  rw [(hagree c).2]
  exact Cert.Embedding.lookup_eq _ _ _ _ _ _ _ _ _ _ _ _

/-- Everything the certificate claims. -/
theorem claim : Cert.Claim :=
  ⟨inferInstance, inferInstance, inferInstance, inferInstance, kernel_frame, kernelIdeal_frame, referenceIdeal_frame,
    reference_frame, trivial, equal_ideal, equal_bits⟩

end Cert.Proof

end
